-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384 : Shape := ⟨1, ![16384]⟩
abbrev S16384x64 : Shape := ⟨2, ![16384, 64]⟩
abbrev S2048x64 : Shape := ⟨2, ![2048, 64]⟩

abbrev nBuf : Space → Nat
  | .hbm => 3
  | .vmem => 2
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S16384x64, .f32⟩
  | .local _ .vmem, ⟨0, _⟩ => ⟨S2048x64, .f32⟩
  | .local _ .vmem, ⟨1, _⟩ => ⟨S2048x64, .f32⟩
  | _, _ => ⟨S16384, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S16384 : Shape := ⟨1, ![16384]⟩
abbrev S_ : Shape := ⟨0, ![]⟩
abbrev S16384x64 : Shape := ⟨2, ![16384, 64]⟩

abbrev nBuf : Space → Nat
  | .hbm => 4
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S_, .f32⟩
  | .hbm, ⟨3, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.ZeroFillIdeal.lean ====
/- The zero-fill kernel, idealized: its run from the body up.
   The body ignores what it finds in the staging buffer and stores one constant over all of it (`body_fills`). Hence
   the proof data `data`, with that constant after every grid point; hence the run of the whole pipeline (`launched`).
   The eight blocks of 2048 rows tile the 16384 rows of the result, so it ends at the constant array `zeros`
   (`result_eq`, `run`), with the arguments kept and every semaphore counter at zero (`frame`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.VecWindow
public import Idealize.ShloMosaic.Lib.Claim
public import Idealize.ShloMosaic.Lib.Tactic

@[expose] public section

noncomputable section

namespace Cert.KernelIdeal.ZeroFill

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The constants -/

/-- A block of 2048 rows of 64 zeros: at every index the float whose word is 0. -/
def zeroBlock : Vec F S2048x64 .f32 := fun _ => (Scalar.ofBits .f32 0x00000000#32 : F .f32)

/-- The array of 16384 rows of 64 zeros. -/
def zeros : FVec F S16384x64 .f32 := fun _ => Scalar.ofBits .f32 0x00000000#32

/-- What the body stores is the block of zeros. -/
theorem stored_eq : (k0_pay1 : FVec F S2048x64 .f32) = zeroBlock := rfl

/-! ## The body -/

set_option maxHeartbeats 1000000 in
/-- Whatever the staging buffer holds, the body runs and leaves the block of zeros there: its one store goes through
    the rectangle that is the whole buffer. -/
theorem body_fills (c : Dev nD) (E : Set ℕ) (i : grid0.Coords) (out : Memref sig .tc .vmem S2048x64 .f32)
    (hout : out.IsWhole) (K : PUnit → sProp 𝕄) :
    iprop((∃ x, owns (c : Thread nD τ) out fullShare x)
        ∗ (iprop(owns (c : Thread nD τ) out fullShare (zeroBlock (F := F))) -∗ K ⟨⟩))
      ⊢ wp frame (wpE (defs₀ (F := F)) Variants.none c none) E (cc0__zero_fill i out hout) K := by
  rw [cc0__zero_fill_eq_skeleton]; unfold cc0__zero_fill_skel
  unfold owns
  iintro ⟨⟨%x, %f, -, Hbuf⟩, Hcont⟩
  sl_exec
  sl_step
  iapply Hcont
  iexists _; isplitr
  swap; · iexact Hbuf
  ipureintro
  rw [← stored_eq]
  exact View.read_writes_full _ _ _ _ _

/-! ## The proof data of the pipeline -/

/-- The arrays as launched; after every point the staging buffer at the block of zeros; nothing owed. -/
def data (_ : Fin 1) (c : Dev nD) : Dat τ (Elt F) Unit ℕ (UR sig nD τ) ℕ cfg0 c where
  A w := m ((c : Thread nD τ).loc (Pipeline.arrRef spec0 w))
  after w _ := match w with
    | ⟨0, _⟩ => zeroBlock
  Φ _ := Pipeline.ΦA spec0 c
  q _ := fullShare
  owed _ := 0

/-- After every point the result's staging buffer holds the block of zeros. -/
theorem after_eq (c : Dev nD) (t : Fin cfg0.N) : (data m 0 c).after 0 t = (zeroBlock (F := F)) := by
  dsimp only [data]

/-- The body at a point, with the invariant and the debts carried around it. -/
theorem body_at (c : Dev nD) (t : Fin cfg0.N) :
    iprop((data m 0 c).Φ t.castSucc ∗ (data m 0 c).owesAt () t.castSucc
        ∗ (∃ x, owns (c : Thread nD τ) (st0_0 t) fullShare ((data m 0 c).before 0 t x)))
      ⊢ wp frame (wpE (defs₀ (F := F)) Variants.none c none) Set.univ (bodyAt0 t) (fun _ =>
        iprop((data m 0 c).Φ t.succ ∗ (data m 0 c).owesAt () t.succ
          ∗ owns (c : Thread nD τ) (st0_0 t) fullShare ((data m 0 c).after 0 t))) := by
  rw [show (data m 0 c).Φ t.succ = (data m 0 c).Φ t.castSucc from rfl,
    show (data m 0 c).owesAt () t.succ = (data m 0 c).owesAt () t.castSucc from rfl, after_eq]
  iintro ⟨Hinv, Howes, ⟨%x, Hbuf⟩⟩
  iapply (body_fills c Set.univ (grid0.coords t) _ _ _)
  isplitl [Hbuf]; · iexists _; iexact Hbuf
  iintro Hbuf
  isplitl [Hinv]; · iexact Hinv
  isplitl [Howes]; · iexact Howes
  iexact Hbuf

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- What the pipeline asks of the body, at every point. -/
theorem body_ok (c : Dev nD) :
    BodyObligation (data (F := F) m 0 c) (defs₀ (F := F)) Variants.none () Set.univ := fun t => by
  rw [bigSep_W0, bigSep_W0, row_eq]
  exact triple_restated (body_at m c t) rfl .rfl fun _ => .rfl

/-! ## The run -/

-- `θ_run_frame`'s implicit arguments are found by unification, which unfolds plain definitions in their types
set_option backward.isDefEq.respectTransparency.types false in
set_option maxHeartbeats 800000 in
/-- The launch: every execution terminates, the result at what the write-backs leave, every other array as launched,
    every semaphore counter at zero. -/
theorem launched : θ_run defs (onTc (τ := τ) (main (F := F))) (s₀ m ρ) (fun r =>
      (Pipeline.FramePost cfgs (data m) 0 fun c b => m ((c : Thread nD τ).loc b)) r ∧ r.2.sem = fun _ => 0) :=
  Pipeline.θ_run_frame (Q' := _) cfgs (data m) (0 : Fin 1) launch0 defs₀ Variants.none m ρ main
    (hbody := fun c => (body_ok m c).loose) (hshare := fun c => (data m 0 c).share_full fun _ => rfl)
    (howed := fun _ _ => rfl) (V := fun c b => m ((c : Thread nD τ).loc b))
    (hmain := Pipeline.hmain_region cfgs 0 defs₀ Variants.none m main fun c => (main_chain c).trans rfl)
    (hA := fun _ _ => rfl) (hΦ := fun _ _ => rfl)

/-- The blocks cover the result, and each is zero: the whole result ends at `zeros`. -/
theorem result_eq (c : Dev nD) : (data m 0 c).arrAt 0 cfg0.N = (zeros (F := F)) := by
  refine (data m 0 c).arrAt_eq_of_covers 0 _ (by decide +kernel) fun t _ y => ?_
  rw [after_eq]
  rfl

/-- The two arguments, which the pipeline does not stage, are after the launch as before it. -/
theorem kept (r : PUnit × MemSt nD τ sig (Elt F))
    (h : Pipeline.FramePost cfgs (data m) 0 (fun c b => m ((c : Thread nD τ).loc b)) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h c).2 main_arg0 (Pipeline.mem_restRefs_of main_arg0 (by decide) (by decide)),
    (h c).2 main_arg1 (Pipeline.mem_restRefs_of main_arg1 (by decide) (by decide))⟩

/-- The frame: termination, the arguments as launched, every semaphore counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨kept m r h.1, h.2⟩) (launched m ρ)

/-- The value: the result at `zeros`, the arguments as launched. -/
theorem run : θ_run defs (onTc (τ := τ) (main (F := F))) ⟨m, fun _ => 0, ρ⟩ (fun r => ∀ c : Dev nD,
      r.2.mem ((c : Thread nD τ).loc main_v0) = (zeros (F := F))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨((h.1 c).1 0).trans (result_eq m c), kept m r h.1 c⟩) (launched m ρ)

end Cert.KernelIdeal.ZeroFill

end
-- ==== Proof.lean ====
/- The certificate: the frames and the kernel's runs come from the `ZeroFill` modules, the idealization
   rewrote nothing, and the two value claims set
   the kernel's result, the constant array `ZeroFill.zeros`, beside the reference's broadcast zero: over the extended
   reals (algebraic) and word for word (bitexact). Neither looks at the arguments. -/
module

public import proofs.«01_k».proof.Defs
public import proofs.«01_k».proof.Proof.Gen.Reference.Run
public import proofs.«01_k».proof.Proof.Gen.ReferenceIdeal.Run
public import proofs.«01_k».proof.Proof.ZeroFill
public import proofs.«01_k».proof.Proof.ZeroFillIdeal
public import Idealize.ShloMosaic.Lib.Quiescent

@[expose] public section

noncomputable section

namespace Cert.Proof

open Idealize.ShloMosaic Idealize.SL.Sem

/-- The printed kernel terminates, keeps its arguments and leaves every counter at zero. -/
theorem frame_kernel : Cert.quiescent_Kernel := fun m ρ _ => Cert.Kernel.ZeroFill.frame (F := Bits) m ρ

/-- So does the idealized kernel. -/
theorem frame_kernelIdeal : Cert.quiescent_KernelIdeal := fun m ρ _ => Cert.KernelIdeal.ZeroFill.frame (F := Ideal) m ρ

/-- The idealized reference terminates and keeps its arguments; it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- So does the reference as printed. -/
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- Over the extended reals the kernel's result is the reference's: zero at every index. -/
theorem algebraic : Cert.algebraic_KernelIdeal_ReferenceIdeal := fun m ρ m' ρ' _ _ =>
  ⟨fun _ => Cert.KernelIdeal.ZeroFill.zeros (F := Ideal),
    Cert.KernelIdeal.ZeroFill.run (F := Ideal) m ρ,
    (θ_run Cert.ReferenceIdeal.defs _ _).mono (fun _ h c => ⟨(h c).1.trans rfl, (h c).2⟩)
      (Cert.ReferenceIdeal.Value.run (F := Ideal) m' ρ')⟩

/-- Word for word the kernel's result is the reference's: the word 0 at every index. -/
theorem bitexact : Cert.bitexact_Kernel_Reference := fun m ρ m' ρ' _ _ =>
  ⟨fun _ => Cert.Kernel.ZeroFill.zeros (F := Bits),
    Cert.Kernel.ZeroFill.run (F := Bits) m ρ,
    (θ_run Cert.Reference.defs _ _).mono (fun _ h c => ⟨(h c).1.trans rfl, (h c).2⟩)
      (Cert.Reference.Value.run (F := Bits) m' ρ')⟩

/-- All the claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
